-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S19x1024x5120 : Shape := ⟨3, ![19, 1024, 5120]⟩
abbrev S19x1024x40 : Shape := ⟨3, ![19, 1024, 40]⟩
abbrev S19x1x5120 : Shape := ⟨3, ![19, 1, 5120]⟩
abbrev S1x1024x512 : Shape := ⟨3, ![1, 1024, 512]⟩
abbrev S1x1024x40 : Shape := ⟨3, ![1, 1024, 40]⟩
abbrev S1x1x512 : Shape := ⟨3, ![1, 1, 512]⟩
abbrev S1x1x40 : Shape := ⟨3, ![1, 1, 40]⟩
abbrev S1x1024 : Shape := ⟨2, ![1, 1024]⟩
abbrev S1x1024x1 : Shape := ⟨3, ![1, 1024, 1]⟩
abbrev S1x1024x128 : Shape := ⟨3, ![1, 1024, 128]⟩
abbrev S1x128 : Shape := ⟨2, ![1, 128]⟩
abbrev S1x1x128 : Shape := ⟨3, ![1, 1, 128]⟩
abbrev S19x5120 : Shape := ⟨2, ![19, 5120]⟩

abbrev nBuf : Space → Nat
  | .hbm => 5
  | .vmem => 8
  | .smem => 0
  | _ => 0

abbrev bufTy : (tb : Table) → Fin (tcTables nBuf tb) → BufTy
  | .hbm, ⟨0, _⟩ => ⟨S19x1024x5120, .fp8e4m3⟩
  | .hbm, ⟨1, _⟩ => ⟨S19x1024x40, .f32⟩
  | .hbm, ⟨2, _⟩ => ⟨S19x1024x5120, .i8⟩
  | .hbm, ⟨3, _⟩ => ⟨S19x1x5120, .f32⟩
  | .hbm, ⟨4, _⟩ => ⟨S19x5120, .f32⟩
  | .local _ .vmem, ⟨0, _⟩ => ⟨S1x1024x512, .fp8e4m3⟩
  | .local _ .vmem, ⟨1, _⟩ => ⟨S1x1024x512, .fp8e4m3⟩
  | .local _ .vmem, ⟨2, _⟩ => ⟨S1x1024x40, .f32⟩
  | .local _ .vmem, ⟨3, _⟩ => ⟨S1x1024x40, .f32⟩
  | .local _ .vmem, ⟨4, _⟩ => ⟨S1x1024x512, .i8⟩
  | .local _ .vmem, ⟨5, _⟩ => ⟨S1x1024x512, .i8⟩
  | .local _ .vmem, ⟨6, _⟩ => ⟨S1x1x512, .f32⟩
  | .local _ .vmem, ⟨7, _⟩ => ⟨S1x1x512, .f32⟩
  | _, _ => ⟨S19x1024x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![19, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x40 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S19x1024x5120 : Shape := ⟨3, ![19, 1024, 5120]⟩
abbrev S19x1024x40 : Shape := ⟨3, ![19, 1024, 40]⟩
abbrev S19x5120 : Shape := ⟨2, ![19, 5120]⟩
abbrev S19x1024x1 : Shape := ⟨3, ![19, 1024, 1]⟩
abbrev S19x1024x128 : Shape := ⟨3, ![19, 1024, 128]⟩
abbrev S19x1x5120 : Shape := ⟨3, ![19, 1, 5120]⟩

abbrev nBuf : Space → Nat
  | .hbm => 4
  | .vmem => 4
  | .smem => 0
  | _ => 0

abbrev bufTy : (tb : Table) → Fin (tcTables nBuf tb) → BufTy
  | .hbm, ⟨0, _⟩ => ⟨S19x1024x5120, .fp8e4m3⟩
  | .hbm, ⟨1, _⟩ => ⟨S19x1024x40, .f32⟩
  | .hbm, ⟨2, _⟩ => ⟨S19x1024x5120, .i8⟩
  | .hbm, ⟨3, _⟩ => ⟨S19x5120, .f32⟩
  | .local _ .vmem, ⟨0, _⟩ => ⟨S19x1024x5120, .fp8e4m3⟩
  | .local _ .vmem, ⟨1, _⟩ => ⟨S19x1024x40, .f32⟩
  | .local _ .vmem, ⟨2, _⟩ => ⟨S19x1024x5120, .i8⟩
  | .local _ .vmem, ⟨3, _⟩ => ⟨S19x5120, .f32⟩
  | _, _ => ⟨S19x1024x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S19x1024x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S19x1024x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S19x1024x5120 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S19x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Spec.lean ====
/- The function both programs compute, index by index, on the extended reals: a value is an fp8 code times the scale of
   its 128-lane group; each column's quantization scale is its largest magnitude over the 1024 rows divided by 127 (one
   where the column is all zero); each result code is the value divided by its column's scale, rounded to the nearest
   integer, clamped to [-127, 127] and read as an 8-bit integer. -/
module

public import Idealize.ShloMosaic.Lib.ValueIdx
public import Idealize.ShloMosaic.PureOps.Ideal.Laws

@[expose] public section

noncomputable section

namespace Cert.Spec

open Idealize.ShloMosaic Idealize.ShloMosaic.ValueIdx

/-- The largest magnitude of a column of 1024 values (the fold starts at the value of the pattern of -∞). -/
def amax (x : Fin 1024 → EReal) : EReal :=
  (Finset.univ : Finset (Fin 1024)).fold max (FloatOps.ofBits (F := Ideal) .f32 0xFF800000#32)
    fun r => FloatOps.absf (F := Ideal) (φ := .f32) (x r)

/-- The quantization scale of a column whose largest magnitude is `a`: one if `a` is zero, else `a / 127`. -/
def qscale (a : EReal) : EReal :=
  Scalar.select (FloatOps.cmpf (F := Ideal) (φ := .f32) .oeq a (FloatOps.ofBits (F := Ideal) .f32 0x00000000#32))
    (FloatOps.ofBits (F := Ideal) .f32 0x3F800000#32)
    (FloatOps.divf (F := Ideal) (φ := .f32) a (FloatOps.ofBits (F := Ideal) .f32 0x42FE0000#32))

/-- The 8-bit code of a value `x` at scale `s`: the quotient rounded to nearest, clamped to [-127, 127]. -/
def qcode (x s : EReal) : BitVec 8 :=
  FloatOps.fptosi (F := Ideal) (φ := .f32) 8
    (FloatOps.minimumf (F := Ideal) (φ := .f32) (FloatOps.ofBits (F := Ideal) .f32 0x42FE0000#32)
      (FloatOps.maximumf (F := Ideal) (φ := .f32) (FloatOps.ofBits (F := Ideal) .f32 0xC2FE0000#32)
        (FloatOps.roundeven (F := Ideal) (φ := .f32) (FloatOps.divf (F := Ideal) (φ := .f32) x s))))

/-- The group a column of the 5120 belongs to: 128 columns each. -/
def group (k : Fin 5120) : Fin 40 := ⟨k.val / 128, by have := k.isLt; omega⟩

section
variable (a0 : FVec Ideal ⟨3, ![19, 1024, 5120]⟩ .fp8e4m3) (a1 : FVec Ideal ⟨3, ![19, 1024, 40]⟩ .f32)

/-- The dequantized value at batch `b`, row `r`, column `k`: code times group scale. -/
def val (b : Fin 19) (r : Fin 1024) (k : Fin 5120) : EReal := a0 (ix3 b r k) * a1 (ix3 b r (group k))

/-- The result scale of batch `b`, column `k`. -/
def scale (b : Fin 19) (k : Fin 5120) : EReal := qscale (amax fun r => val a0 a1 b r k)

/-- The result code at batch `b`, row `r`, column `k`. -/
def code (b : Fin 19) (r : Fin 1024) (k : Fin 5120) : BitVec 8 := qcode (val a0 a1 b r k) (scale a0 a1 b k)

/-- The array of result codes. -/
def codes : IVec ⟨3, ![19, 1024, 5120]⟩ 8 := fun i => code a0 a1 (i 0) (i 1) (i 2)

/-- The array of result scales. -/
def scales : FVec Ideal ⟨2, ![19, 5120]⟩ .f32 := fun i => scale a0 a1 (i 0) (i 1)

end

end Cert.Spec

end
-- ==== Proof.Tile.lean ====
/- One 128-lane group of the kernel's body at an index. The four groups of a grid point run one and the same chain of
   operations (`tileVal`, `tileScale`, `tileCode`) on different lanes and a different one-hot mask over the 40 group
   scales; under a mask that selects group `g` alone the masked sum of the scales is the scale of `g`, since every other
   summand is zero, and the chain computes the specification's functions at that group. -/
module

public import proofs.«01_k».proof.Proof.Gen.KernelIdeal.Skeleton
public import proofs.«01_k».proof.Proof.Spec
public import Idealize.ShloMosaic.Lib.Pipeline.Value

@[expose] public section

noncomputable section

namespace Cert.KernelIdeal.Tile

open Cert.KernelIdeal Cert.KernelIdeal.Gen Idealize.ShloMosaic Idealize.ShloMosaic.ValueIdx
open scoped BigOperators

variable (mask : IVec S1x1x40 1) (s : FVec Ideal S1x1024x40 .f32) (x : FVec Ideal S1x1024x128 .fp8e4m3)

/-- The mask selects group `g` and no other. -/
def OneHot (g : Fin 40) : Prop := ∀ k : Fin 40, mask (ix3 0 0 k) = if k = g then 1#1 else 0#1

/-- The masked scales summed over the 40 groups: under a one-hot mask, the selected group's scale. -/
theorem rowScale (g : Fin 40) (h : OneHot mask g) (r : Fin 1024) :
    multiReduction (F := Ideal) .add [2] S1x1024
      (select (broadcastTo S1x1024x40 (shapeCast S1x1x40 mask shapeCasts_S1x1x40_S1x1x40) broadcasts_S1x1x40_S1x1024x40)
        s (broadcast S1x1024x40 (Scalar.ofBits (F := Ideal) .f32 0x00000000#32)))
      0x00000000#32 reduces_S1x1024x40_S1x1024 (.inl rfl) rfl (ix2 0 r) = s (ix3 0 r g) := by
  refine (Ideal.multiReduction_add_single _ _ _ _ _ _).trans ?_
  have e : ∀ k : Fin 40, Shape.Reduces.lift reduces_S1x1024x40_S1x1024 (ix2 (0 : Fin 1) r) k = ix3 (0 : Fin 1) r k := by
    intro k; funext d
    match d with
    | ⟨0, _⟩ => rfl
    | ⟨1, _⟩ => rfl
    | ⟨2, _⟩ => rfl
  have hb : ∀ k : Fin 40, broadcastTo S1x1024x40 (shapeCast S1x1x40 mask shapeCasts_S1x1x40_S1x1x40)
      broadcasts_S1x1x40_S1x1024x40 (ix3 0 r k) = mask (ix3 0 0 k) := by
    intro k
    rw [shapeCast_self]
    refine broadcastTo_apply _ _ _ _ fun a => ?_
    match a with
    | ⟨0, _⟩ => rfl
    | ⟨1, _⟩ => rfl
    | ⟨2, _⟩ => rfl
  refine (Finset.sum_eq_single (M := EReal) g (fun k _ hk => ?_) (fun hg => absurd (Finset.mem_univ _) hg)).trans ?_
  · refine (congrArg _ (e k)).trans ?_
    rw [select_apply, hb, h k, if_neg hk, select_zero]
    exact Ideal.ofBits_zero_f32
  · refine (congrArg _ (e g)).trans ?_
    rw [select_apply, hb, h g, if_pos rfl, select_one]

/-- The group's values: code times the selected scale. -/
theorem val_apply (g : Fin 40) (h : OneHot mask g) (r : Fin 1024) (l : Fin 128) :
    k0_pay1 (F := Ideal) mask s x (ix3 0 r l) = x (ix3 0 r l) * s (ix3 0 r g) := by
  unfold k0_pay1
  show x (ix3 0 r l) * broadcastTo S1x1024x128 _ broadcasts_S1x1024x1_S1x1024x128 (ix3 0 r l) = _
  congr 1
  refine (broadcastTo_apply _ _ _ (ix3 0 r 0) fun a => ?_).trans ?_
  · match a with
    | ⟨0, _⟩ => rfl
    | ⟨1, _⟩ => rfl
    | ⟨2, _⟩ => rfl
  refine (shapeCast_apply _ _ _ (ix2 0 r) ?_).trans (rowScale mask s g h r)
  rw [Shape.rowMajor_val_two, Shape.rowMajor_val_three]
  show 0 * 1024 + r.val = (0 * 1024 + r.val) * 1 + 0
  omega

/-- The group's column scales. -/
theorem scale_apply (g : Fin 40) (h : OneHot mask g) (l : Fin 128) :
    k0_pay2 (F := Ideal) mask s x (ix3 0 0 l) = Spec.qscale (Spec.amax fun r => x (ix3 0 r l) * s (ix3 0 r g)) := by
  unfold k0_pay2
  have hm : shapeCast S1x1x128 (multiReduction (F := Ideal) .maximumf [1] S1x128 (absf (k0_pay1 (F := Ideal) mask s x)) 0xFF800000#32
      reduces_S1x1024x128_S1x128 (.inl rfl) rfl) shapeCasts_S1x128_S1x1x128 (ix3 0 0 l)
      = Spec.amax fun r => x (ix3 0 r l) * s (ix3 0 r g) := by
    refine (shapeCast_apply _ _ _ (ix2 0 l) ?_).trans ?_
    · rw [Shape.rowMajor_val_two, Shape.rowMajor_val_three]
      show 0 * 128 + l.val = (0 * 1 + 0) * 128 + l.val
      omega
    refine (Ideal.multiReduction_maximumf_single _ _ _ _ _ _).trans ?_
    refine congrArg (Finset.univ.fold max _) (funext fun r => ?_)
    have e : Shape.Reduces.lift reduces_S1x1024x128_S1x128 (ix2 (0 : Fin 1) l) r = ix3 (0 : Fin 1) r l := by
      funext d
      match d with
      | ⟨0, _⟩ => rfl
      | ⟨1, _⟩ => rfl
      | ⟨2, _⟩ => rfl
    show FloatOps.absf (F := Ideal) (φ := .f32) (k0_pay1 (F := Ideal) mask s x (Shape.Reduces.lift reduces_S1x1024x128_S1x128 (ix2 0 l) r)) = _
    exact congrArg _ ((congrArg _ e).trans (val_apply mask s x g h r l))
  rw [← hm]
  rfl

/-- The group's codes. -/
theorem code_apply (g : Fin 40) (h : OneHot mask g) (r : Fin 1024) (l : Fin 128) :
    k0_pay3 (F := Ideal) mask s x (ix3 0 r l)
      = Spec.qcode (x (ix3 0 r l) * s (ix3 0 r g)) (Spec.qscale (Spec.amax fun r => x (ix3 0 r l) * s (ix3 0 r g))) := by
  have hs : broadcastTo S1x1024x128 (k0_pay2 (F := Ideal) mask s x) broadcasts_S1x1x128_S1x1024x128 (ix3 0 r l)
      = k0_pay2 (F := Ideal) mask s x (ix3 0 0 l) := by
    refine broadcastTo_apply _ _ _ _ fun a => ?_
    match a with
    | ⟨0, _⟩ => rfl
    | ⟨1, _⟩ => rfl
    | ⟨2, _⟩ => rfl
  rw [← val_apply mask s x g h, ← scale_apply mask s x g h, ← hs]
  rfl

/-! ## The mask of group `j` of grid column `n`, and the four groups as one chain -/

/-- The kernel's mask: lanes equal to `4 * n + j`. -/
def maskOf (n j : Nat) : IVec S1x1x40 1 :=
  cmpi .eq (iota .tc S1x1x40 32 [2] iota_S1x1x40_d2_w32)
    (broadcast S1x1x40 (Scalar.addi (Scalar.muli (BitVec.ofNat 32 n) 4#32) (BitVec.ofNat 32 j)))

/-- The group of the 40 that lane group `j` of grid column `n` works on. -/
def groupOf (n : Fin 10) (j : Fin 4) : Fin 40 := ⟨4 * n.val + j.val, by omega⟩

/-- The mask selects exactly that group. -/
theorem oneHot (n : Fin 10) (j : Fin 4) : OneHot (maskOf n j) (groupOf n j) := by
  intro k
  have key : ∀ (n : Fin 10) (j : Fin 4) (k : Fin 40),
      IntOp.cmpi .eq (BitVec.ofNat 32 k.val)
        (Scalar.addi (Scalar.muli (BitVec.ofNat 32 n.val) 4#32) (BitVec.ofNat 32 j.val))
      = if k = groupOf n j then 1#1 else 0#1 := by decide +kernel
  show IntOp.cmpi .eq (iota .tc S1x1x40 32 [2] iota_S1x1x40_d2_w32 (ix3 0 0 k)) _ = _
  rw [iota_single_apply]
  exact key n j k

end Cert.KernelIdeal.Tile

end
-- ==== Proof.Block.lean ====
/- What the kernel's body leaves in its two output blocks at a grid point, index by index: the specification's code and
   scale, computed from the point's block of codes and the batch's block of group scales. The four lane groups of the
   body are one chain on four offsets, so each fact is stated once for a lane group `j`. -/
module

public import proofs.«01_k».proof.Proof.Gen.KernelIdeal.Frame
public import proofs.«01_k».proof.Proof.Tile

@[expose] public section

noncomputable section

namespace Cert.KernelIdeal.Block

open Cert.KernelIdeal Cert.KernelIdeal.Gen Cert.KernelIdeal.Tile Idealize.ShloMosaic Idealize.ShloMosaic.ValueIdx

variable (n : Fin 10) (x0 : Vec Ideal S1x1024x512 .fp8e4m3) (x1 : Vec Ideal S1x1024x40 .f32)

/-- The group of lane `l` of the 512 of grid column `n`. -/
def laneGroup (l : Fin 512) : Fin 40 := ⟨4 * n.val + l.val / 128, by omega⟩

/-- The value at row `r`, lane `l` of the block. -/
def bval (r : Fin 1024) (l : Fin 512) : EReal :=
  (x0 (ix3 0 r l) : EReal) * (x1 (ix3 0 r (laneGroup n l)) : EReal)

/-- The block's scales. -/
def bscale (y : S1x1x512.Idx) : Elt Ideal .f32 := Spec.qscale (Spec.amax fun r => bval n x0 x1 r (y 2))

/-- The block's codes. -/
def bcode (y : S1x1024x512.Idx) : Elt Ideal .i8 :=
  Spec.qcode (bval n x0 x1 (y 1) (y 2)) (Spec.qscale (Spec.amax fun r => bval n x0 x1 r (y 2)))

/-- Lane `l` of group `j` as a lane of the block. -/
def lane (j : Fin 4) (l : Fin 128) : Fin 512 := ⟨128 * j.val + l.val, by omega⟩

theorem laneGroup_lane (j : Fin 4) (l : Fin 128) : laneGroup n (lane j l) = groupOf n j := by
  apply Fin.ext
  show 4 * n.val + (128 * j.val + l.val) / 128 = 4 * n.val + j.val
  omega

/-- The codes' lane group `j` of a block, loaded. -/
theorem ld_apply (j : Fin 4) (o : Nat) (ho : o = 128 * j.val) (inb) (r : Fin 1024) (l : Fin 128) :
    View.ld x0 (Rect.unit (s := S1x1024x512) ![0, 0, o] S1x1024x128.size inb) (ix3 0 r l) = x0 (ix3 0 r (lane j l)) := by
  show x0 _ = x0 _
  congr 1
  funext a
  apply Fin.ext
  match a with
  | ⟨0, _⟩ => rfl
  | ⟨1, _⟩ => show 0 + 1 * r.val = r.val; omega
  | ⟨2, _⟩ => show o + 1 * l.val = 128 * j.val + l.val; omega

/-- The group's product at a row and lane is the block's value there. -/
theorem prod_eq (j : Fin 4) (o : Nat) (ho : o = 128 * j.val) (inb) (r : Fin 1024) (l : Fin 128) :
    (View.ld x0 (Rect.unit (s := S1x1024x512) ![0, 0, o] S1x1024x128.size inb) (ix3 0 r l) : EReal)
        * (x1 (ix3 0 r (groupOf n j)) : EReal) = bval n x0 x1 r (lane j l) := by
  unfold bval
  rw [laneGroup_lane]
  exact congrArg (fun v : EReal => v * (x1 (ix3 0 r (groupOf n j)) : EReal)) (ld_apply x0 j o ho inb r l)

/-- Lane group `j`'s stored codes are the block's codes at the stored place. -/
theorem piece_code (j : Fin 4) (o : Nat) (ho : o = 128 * j.val) (inb) (z : S1x1024x128.Idx) :
    k0_pay3 (F := Ideal) (maskOf n.val j.val) x1 (View.ld x0 (Rect.unit (s := S1x1024x512) ![0, 0, o] S1x1024x128.size inb)) z
      = bcode n x0 x1 ((Rect.unit (s := S1x1024x512) ![0, 0, o] S1x1024x128.size inb).emb z) := by
  obtain ⟨r, l, rfl⟩ : ∃ (r : Fin 1024) (l : Fin 128), z = ix3 0 r l :=
    ⟨z 1, z 2, funext fun a => match a with
      | ⟨0, _⟩ => Subsingleton.elim (α := Fin 1) _ _
      | ⟨1, _⟩ => rfl
      | ⟨2, _⟩ => rfl⟩
  have e1 : ((Rect.unit (s := S1x1024x512) ![0, 0, o] S1x1024x128.size inb).emb (ix3 0 r l)) 1 = r :=
    Fin.ext (show 0 + 1 * r.val = r.val by omega)
  have e2 : ((Rect.unit (s := S1x1024x512) ![0, 0, o] S1x1024x128.size inb).emb (ix3 0 r l)) 2 = lane j l :=
    Fin.ext (show o + 1 * l.val = 128 * j.val + l.val by omega)
  refine (code_apply _ _ _ (groupOf n j) (oneHot n j) r l).trans ?_
  unfold bcode
  rw [e1, e2]
  exact congrArg₂ Spec.qcode (prod_eq n x0 x1 j o ho inb r l)
    (congrArg Spec.qscale (congrArg Spec.amax (funext fun r => prod_eq n x0 x1 j o ho inb r l)))

/-- Lane group `j`'s stored scales are the block's scales at the stored place. -/
theorem piece_scale (j : Fin 4) (o : Nat) (ho : o = 128 * j.val) (inb) (inb') (z : S1x1x128.Idx) :
    k0_pay2 (F := Ideal) (maskOf n.val j.val) x1 (View.ld x0 (Rect.unit (s := S1x1024x512) ![0, 0, o] S1x1024x128.size inb)) z
      = bscale n x0 x1 ((Rect.unit (s := S1x1x512) ![0, 0, o] S1x1x128.size inb').emb z) := by
  obtain ⟨l, rfl⟩ : ∃ (l : Fin 128), z = ix3 0 0 l :=
    ⟨z 2, funext fun a => match a with
      | ⟨0, _⟩ => Subsingleton.elim (α := Fin 1) _ _
      | ⟨1, _⟩ => Subsingleton.elim (α := Fin 1) _ _
      | ⟨2, _⟩ => rfl⟩
  have e2 : ((Rect.unit (s := S1x1x512) ![0, 0, o] S1x1x128.size inb').emb (ix3 0 0 l)) 2 = lane j l :=
    Fin.ext (show o + 1 * l.val = 128 * j.val + l.val by omega)
  refine (scale_apply _ _ _ (groupOf n j) (oneHot n j) l).trans ?_
  unfold bscale
  rw [e2]
  exact congrArg Spec.qscale (congrArg Spec.amax (funext fun r => prod_eq n x0 x1 j o ho inb r l))

theorem hz : (![0, 0, 0] : Fin 3 → Nat) = fun _ => 0 := funext fun a => by fin_cases a <;> rfl

/-- The codes the body leaves in its block. -/
theorem out_codes (i : grid0.Coords) (hi : (i 1).val = n.val) (y : S1x1024x512.Idx) :
    out0_2 (F := Ideal) i x0 x1 y = bcode n x0 x1 y := by
  unfold out0_2
  rw [View.ld_unit_zero hz]
  refine View.canon_apply_of_pieces (bcode n x0 x1) _ (fun p hp => ?_) y (cover0_2 _ _ _ _ y)
  simp only [List.mem_cons, List.mem_nil_iff, or_false] at hp
  have en : BitVec.ofNat 32 (i 1).val = BitVec.ofNat 32 n.val := by rw [hi]
  rcases hp with rfl | rfl | rfl | rfl
  · intro z
    refine Eq.trans ?_ (piece_code n x0 x1 3 384 rfl inb_S1x1024x512_S1x1024x128_0_0_384 z)
    unfold k0_pay17
    rw [en]; rfl
  · intro z
    refine Eq.trans ?_ (piece_code n x0 x1 2 256 rfl inb_S1x1024x512_S1x1024x128_0_0_256 z)
    unfold k0_pay16
    rw [en]; rfl
  · intro z
    refine Eq.trans ?_ (piece_code n x0 x1 1 128 rfl inb_S1x1024x512_S1x1024x128_0_0_128 z)
    rw [en]; rfl
  · intro z
    refine Eq.trans ?_ (piece_code n x0 x1 0 0 rfl inb_S1x1024x512_S1x1024x128_0_0_0 z)
    unfold k0_pay6 k0_pay5 k0_pay4
    rw [en]; rfl

/-- The body's four scale payloads are the one chain, each at its own mask. -/
theorem scale3 (i : grid0.Coords) (hi : (i 1).val = n.val) (x : Vec Ideal S1x1024x128 .fp8e4m3) :
    k0_pay2 (F := Ideal) (k0_pay17 i x0 x1) x1 x = k0_pay2 (F := Ideal) (maskOf n.val (3 : Fin 4).val) x1 x := by
  unfold k0_pay17; rw [hi]; rfl
theorem scale2 (i : grid0.Coords) (hi : (i 1).val = n.val) (x : Vec Ideal S1x1024x128 .fp8e4m3) :
    k0_pay12 (F := Ideal) (k0_pay15 i x0 x1) (k0_pay16 i x0 x1) x1 x = k0_pay2 (F := Ideal) (maskOf n.val (2 : Fin 4).val) x1 x := by
  unfold k0_pay16; rw [hi]; rfl
theorem scale1 (i : grid0.Coords) (hi : (i 1).val = n.val) (x : Vec Ideal S1x1024x128 .fp8e4m3) :
    k0_pay8 (F := Ideal) (Scalar.muli (BitVec.ofNat 32 (i 1).val) 4#32) (k0_pay15 i x0 x1) x1 x
      = k0_pay2 (F := Ideal) (maskOf n.val (1 : Fin 4).val) x1 x := by
  rw [hi]; rfl
theorem scale0 (i : grid0.Coords) (hi : (i 1).val = n.val) (x : Vec Ideal S1x1024x128 .fp8e4m3) :
    k0_pay5 (F := Ideal) i x1 x = k0_pay2 (F := Ideal) (maskOf n.val (0 : Fin 4).val) x1 x := by
  unfold k0_pay5 k0_pay4; rw [hi]; rfl

/-- The scales the body leaves in its block. -/
theorem out_scales (i : grid0.Coords) (hi : (i 1).val = n.val) (y : S1x1x512.Idx) :
    out0_3 (F := Ideal) i x0 x1 y = bscale n x0 x1 y := by
  unfold out0_3
  rw [View.ld_unit_zero hz]
  refine View.canon_apply_of_pieces (bscale n x0 x1) _ (fun p hp => ?_) y (cover0_3 _ _ _ _ y)
  simp only [List.mem_cons, List.mem_nil_iff, or_false] at hp
  rcases hp with rfl | rfl | rfl | rfl
  · intro z
    dsimp only at z ⊢
    rw [scale3 n x0 x1 i hi, piece_scale n x0 x1 3 384 rfl inb_S1x1024x512_S1x1024x128_0_0_384
      inb_S1x1x512_S1x1x128_0_0_384 z]
  · intro z
    dsimp only at z ⊢
    rw [scale2 n x0 x1 i hi, piece_scale n x0 x1 2 256 rfl inb_S1x1024x512_S1x1024x128_0_0_256
      inb_S1x1x512_S1x1x128_0_0_256 z]
  · intro z
    dsimp only at z ⊢
    rw [scale1 n x0 x1 i hi, piece_scale n x0 x1 1 128 rfl inb_S1x1024x512_S1x1024x128_0_0_128
      inb_S1x1x512_S1x1x128_0_0_128 z]
  · intro z
    dsimp only at z ⊢
    rw [scale0 n x1 i hi, piece_scale n x0 x1 0 0 rfl inb_S1x1024x512_S1x1024x128_0_0_0
      inb_S1x1x512_S1x1x128_0_0_0 z]

end Cert.KernelIdeal.Block

end
-- ==== Proof.KernelRun.lean ====
/- The kernel's run on the extended reals, read: after it the array of codes and the reshaped array of scales are the
   specification's functions of the two argument arrays. Each grid point writes its own block of the two whole-array
   functions, the blocks cover the arrays, and the host line after the launch drops the scales' unit axis. -/
module

public import proofs.«01_k».proof.Proof.Block

@[expose] public section

noncomputable section

namespace Cert.KernelIdeal.Whole

open Cert.KernelIdeal Cert.KernelIdeal.Gen Cert.KernelIdeal.Block
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- Where the windows' blocks sit at each of the 190 points (decided): the codes' blocks move along batch and columns, the
    scales' input block along the batch only. -/
theorem index_facts : ∀ t : Fin cfg0.N,
    (win0_0.index t (0 : Fin 3) = win0_2.index t (0 : Fin 3) ∧ win0_0.index t (1 : Fin 3) = 0
      ∧ win0_0.index t (2 : Fin 3) = ((grid0.coords t) 1).val)
    ∧ (win0_1.index t (0 : Fin 3) = win0_2.index t (0 : Fin 3) ∧ win0_1.index t (1 : Fin 3) = 0
      ∧ win0_1.index t (2 : Fin 3) = 0)
    ∧ (win0_2.index t (0 : Fin 3) < 19 ∧ win0_2.index t (1 : Fin 3) = 0
      ∧ win0_2.index t (2 : Fin 3) = ((grid0.coords t) 1).val)
    ∧ (win0_3.index t (0 : Fin 3) = win0_2.index t (0 : Fin 3) ∧ win0_3.index t (1 : Fin 3) = 0
      ∧ win0_3.index t (2 : Fin 3) = ((grid0.coords t) 1).val) :=
  (by decide +kernel : ∀ t : Fin grid0.N, _)

/-- The point that works on batch `b` and columns `512 q … 512 q + 511` (decided). -/
theorem point_facts : ∀ (b : Fin 19) (q : Fin 10), ∃ t : Fin cfg0.N,
    win0_2.index t (0 : Fin 3) = b.val ∧ ((grid0.coords t) 1).val = q.val :=
  fun b q => ⟨⟨10 * b.val + q.val, by have : cfg0.N = 190 := N_0; omega⟩,
    (by decide +kernel : ∀ (b : Fin 19) (q : Fin 10),
      win0_2.index (⟨10 * b.val + q.val, by have : grid0.N = 190 := N_0; omega⟩ : Fin grid0.N) (0 : Fin 3) = b.val
      ∧ ((grid0.coords (⟨10 * b.val + q.val, by have : grid0.N = 190 := N_0; omega⟩ : Fin grid0.N)) 1).val = q.val) b q⟩

/-- The grid column of point `t`. -/
def col (t : Fin cfg0.N) : Fin 10 := ⟨((grid0.coords t) 1).val, ((grid0.coords t) 1).isLt⟩

/-- The batch of point `t`. -/
def batch (t : Fin cfg0.N) : Fin 19 := ⟨win0_2.index t (0 : Fin 3), (index_facts t).2.2.1.1⟩

/-- The array column of lane `l` of point `t`'s block. -/
def column (t : Fin cfg0.N) (l : Fin 512) : Fin 5120 :=
  ⟨512 * (col t).val + l.val, by have := (col t).isLt; omega⟩

theorem emb0 (t : Fin cfg0.N) (r : Fin 1024) (l : Fin 512) :
    ((cfg0.win 0).blk t).view.emb (ix3 (0 : Fin 1) r l) = ix3 (batch t) r (column t l) := by
  obtain ⟨⟨e0, e1, e2⟩, -, -, -⟩ := index_facts t
  funext a; apply Fin.ext
  match a with
  | ⟨0, _⟩ => show win0_0.index t (0 : Fin 3) * 1 + 1 * 0 = win0_2.index t (0 : Fin 3); omega
  | ⟨1, _⟩ => show win0_0.index t (1 : Fin 3) * 1024 + 1 * r.val = r.val; omega
  | ⟨2, _⟩ => show win0_0.index t (2 : Fin 3) * 512 + 1 * l.val = 512 * ((grid0.coords t) 1).val + l.val; omega

theorem emb1 (t : Fin cfg0.N) (r : Fin 1024) (g : Fin 40) :
    ((cfg0.win 1).blk t).view.emb (ix3 (0 : Fin 1) r g) = ix3 (batch t) r g := by
  obtain ⟨-, ⟨e0, e1, e2⟩, -, -⟩ := index_facts t
  funext a; apply Fin.ext
  match a with
  | ⟨0, _⟩ => show win0_1.index t (0 : Fin 3) * 1 + 1 * 0 = win0_2.index t (0 : Fin 3); omega
  | ⟨1, _⟩ => show win0_1.index t (1 : Fin 3) * 1024 + 1 * r.val = r.val; omega
  | ⟨2, _⟩ => show win0_1.index t (2 : Fin 3) * 40 + 1 * g.val = g.val; omega

theorem emb2 (t : Fin cfg0.N) (y : S1x1024x512.Idx) :
    ((cfg0.win 2).blk t).view.emb y = ix3 (batch t) (y 1) (column t (y 2)) := by
  obtain ⟨-, -, ⟨e0, e1, e2⟩, -⟩ := index_facts t
  have h0 : (y 0).val < 1 := (y 0).isLt
  funext a; apply Fin.ext
  match a with
  | ⟨0, _⟩ => show win0_2.index t (0 : Fin 3) * 1 + 1 * (y 0).val = win0_2.index t (0 : Fin 3); omega
  | ⟨1, _⟩ => show win0_2.index t (1 : Fin 3) * 1024 + 1 * (y 1).val = (y 1).val; omega
  | ⟨2, _⟩ => show win0_2.index t (2 : Fin 3) * 512 + 1 * (y 2).val = 512 * ((grid0.coords t) 1).val + (y 2).val; omega

theorem emb3 (t : Fin cfg0.N) (y : S1x1x512.Idx) :
    ((cfg0.win 3).blk t).view.emb y = ix3 (batch t) (0 : Fin 1) (column t (y 2)) := by
  obtain ⟨-, -, -, ⟨e0, e1, e2⟩⟩ := index_facts t
  have h0 : (y 0).val < 1 := (y 0).isLt
  have h1 : (y 1).val < 1 := (y 1).isLt
  funext a; apply Fin.ext
  match a with
  | ⟨0, _⟩ => show win0_3.index t (0 : Fin 3) * 1 + 1 * (y 0).val = win0_2.index t (0 : Fin 3); omega
  | ⟨1, _⟩ => show win0_3.index t (1 : Fin 3) * 1 + 1 * (y 1).val = 0; omega
  | ⟨2, _⟩ => show win0_3.index t (2 : Fin 3) * 512 + 1 * (y 2).val = 512 * ((grid0.coords t) 1).val + (y 2).val; omega

/-- A value of point `t`'s block is the specification's value at its place in the array. -/
theorem bval_eq (c : Dev nD) (t : Fin cfg0.N) (r : Fin 1024) (l : Fin 512) :
    bval (col t) (iblk m c 0 t) (iblk m c 1 t) r l
      = Spec.val (V m c main_arg0) (V m c main_arg1) (batch t) r (column t l) := by
  have hg : laneGroup (col t) l = Spec.group (column t l) := by
    apply Fin.ext
    show 4 * (col t).val + l.val / 128 = (512 * (col t).val + l.val) / 128
    omega
  unfold bval Spec.val
  rw [← hg]
  exact congrArg₂ (fun u v : EReal => u * v)
    (congrArg (V m c main_arg0) (emb0 t r l)) (congrArg (V m c main_arg1) (emb1 t r _))

/-- The scales as the kernel lays them out, with a unit row axis. -/
def scales3 (a0 : FVec Ideal ⟨3, ![19, 1024, 5120]⟩ .fp8e4m3) (a1 : FVec Ideal ⟨3, ![19, 1024, 40]⟩ .f32) :
    S19x1x5120.Idx → Elt Ideal .f32 := fun i => Spec.scale a0 a1 (i 0) (i 2)

/-- The body's codes at point `t` are the specification's, each at its place in the array. -/
theorem bcode_eq (c : Dev nD) (t : Fin cfg0.N) (y : S1x1024x512.Idx) :
    bcode (col t) (iblk m c 0 t) (iblk m c 1 t) y
      = Spec.codes (V m c main_arg0) (V m c main_arg1) (ix3 (batch t) (y 1) (column t (y 2))) :=
  congrArg₂ Spec.qcode (bval_eq m c t (y 1) (y 2))
    (congrArg Spec.qscale (congrArg Spec.amax (funext fun r => bval_eq m c t r (y 2))))

/-- The body's scales at point `t` are the specification's, each at its place in the array. -/
theorem bscale_eq (c : Dev nD) (t : Fin cfg0.N) (y : S1x1x512.Idx) :
    bscale (col t) (iblk m c 0 t) (iblk m c 1 t) y
      = scales3 (V m c main_arg0) (V m c main_arg1) (ix3 (batch t) (0 : Fin 1) (column t (y 2))) :=
  congrArg Spec.qscale (congrArg Spec.amax (funext fun r => bval_eq m c t r (y 2)))

/-- What point `t` writes back to the codes is its block of the specification's codes. -/
theorem flushed2 (c : Dev nD) (t : Fin cfg0.N) :
    (dats m 0 c).flushed 2 t
      = ((cfg0.win 2).blk t).view.read (Elt Ideal) (Spec.codes (V m c main_arg0) (V m c main_arg1)) := by
  show (cfg0.win 2).cut (grid0.coords t) ((dats m 0 c).after 2 t) = _
  rw [after0_2]
  funext y
  show out0_2 (grid0.coords t) (iblk m c 0 t) (iblk m c 1 t) y
    = Spec.codes (V m c main_arg0) (V m c main_arg1) (((cfg0.win 2).blk t).view.emb y)
  rw [emb2]
  exact (out_codes (col t) _ _ (grid0.coords t) rfl y).trans (bcode_eq m c t y)

/-- What point `t` writes back to the scales is its block of the specification's scales. -/
theorem flushed3 (c : Dev nD) (t : Fin cfg0.N) :
    (dats m 0 c).flushed 3 t
      = ((cfg0.win 3).blk t).view.read (Elt Ideal) (scales3 (V m c main_arg0) (V m c main_arg1)) := by
  show (cfg0.win 3).cut (grid0.coords t) ((dats m 0 c).after 3 t) = _
  rw [after0_3]
  funext y
  show out0_3 (grid0.coords t) (iblk m c 0 t) (iblk m c 1 t) y
    = scales3 (V m c main_arg0) (V m c main_arg1) (((cfg0.win 3).blk t).view.emb y)
  rw [emb3]
  exact (out_scales (col t) _ _ (grid0.coords t) rfl y).trans (bscale_eq m c t y)

/-- Some point's block holds batch `b` and column `k`, at some lane. -/
theorem exists_point (b : Fin 19) (k : Fin 5120) : ∃ (t : Fin cfg0.N) (l : Fin 512), batch t = b ∧ column t l = k := by
  obtain ⟨t, h0, h1⟩ := point_facts b ⟨k.val / 512, by omega⟩
  refine ⟨t, ⟨k.val % 512, by omega⟩, Fin.ext h0, Fin.ext ?_⟩
  show 512 * ((grid0.coords t) 1).val + k.val % 512 = k.val
  have h1' : ((grid0.coords t) 1).val = k.val / 512 := h1
  omega

/-- The blocks cover the codes. -/
theorem covered2 (i : S19x1024x5120.Idx) :
    ∃ t : Fin cfg0.N, (cfg0.win 2).flush t = true ∧ i ∈ ((cfg0.win 2).blk t).view.set := by
  obtain ⟨t, l, hb, hl⟩ := exists_point (i 0) (i 2)
  refine ⟨t, flush0_2 t, ?_⟩
  have h := ((cfg0.win 2).blk t).view.emb_mem_set (ix3 (0 : Fin 1) (i 1) l : S1x1024x512.Idx)
  rw [emb2] at h
  have e : (ix3 (batch t) (i 1) (column t l) : S19x1024x5120.Idx) = i := by
    rw [hb, hl]; exact (eq_ix3 i).symm
  exact e ▸ h

/-- The blocks cover the scales. -/
theorem covered3 (i : S19x1x5120.Idx) :
    ∃ t : Fin cfg0.N, (cfg0.win 3).flush t = true ∧ i ∈ ((cfg0.win 3).blk t).view.set := by
  obtain ⟨t, l, hb, hl⟩ := exists_point (i 0) (i 2)
  refine ⟨t, flush0_3 t, ?_⟩
  have h := ((cfg0.win 3).blk t).view.emb_mem_set (ix3 (0 : Fin 1) (0 : Fin 1) l : S1x1x512.Idx)
  rw [emb3] at h
  have e : (ix3 (batch t) (0 : Fin 1) (column t l) : S19x1x5120.Idx) = i := by
    rw [hb, hl]
    funext a
    match a with
    | ⟨0, _⟩ => rfl
    | ⟨1, _⟩ => exact Subsingleton.elim (α := Fin 1) _ _
    | ⟨2, _⟩ => rfl
  exact e ▸ h

/-- The codes after the run. -/
theorem final2 (c : Dev nD) : (dats m 0 c).arrAt 2 cfg0.N
    = Spec.codes (m ((c : Thread nD τ).loc main_arg0)) (m ((c : Thread nD τ).loc main_arg1)) :=
  (dats m 0 c).arrAt_eq_of_cover 2 (Spec.codes (V m c main_arg0) (V m c main_arg1)) (fun t _ => flushed2 m c t) covered2

/-- The kernel's array of scales after the run, before the reshape. -/
theorem final3 (c : Dev nD) : (dats m 0 c).arrAt 3 cfg0.N
    = scales3 (m ((c : Thread nD τ).loc main_arg0)) (m ((c : Thread nD τ).loc main_arg1)) :=
  (dats m 0 c).arrAt_eq_of_cover 3 (scales3 (V m c main_arg0) (V m c main_arg1)) (fun t _ => flushed3 m c t) covered3

/-- Dropping the unit axis of the scales gives the specification's scales. -/
theorem reshaped (a0 : FVec Ideal ⟨3, ![19, 1024, 5120]⟩ .fp8e4m3) (a1 : FVec Ideal ⟨3, ![19, 1024, 40]⟩ .f32) :
    shapeCast S19x5120 (scales3 a0 a1) shapeCasts_S19x1x5120_S19x5120 = Spec.scales a0 a1 := by
  funext i
  refine (shapeCast_apply _ _ i (ix3 (i 0) (0 : Fin 1) (i 1)) ?_).trans rfl
  rw [Shape.rowMajor_val_two, Shape.rowMajor_val_three]
  show ((i 0).val * 1 + 0) * 5120 + (i 1).val = (i 0).val * 5120 + (i 1).val
  omega

/-- The host line after the launch, read: the reshaped scales. -/
theorem tail_v1 (c : Dev nD) : Pipeline.afterTail₀ cfgs (dats m) 0 (V0 m) [hostOps1] c main_v1
    = Spec.scales (m ((c : Thread nD τ).loc main_arg0)) (m ((c : Thread nD τ).loc main_arg1)) := by
  have h3 : Pipeline.withArrays (cfgs 0).spec c (V0 m c) (fun w => (dats m 0 c).arrAt w (cfgs 0).N)
      (Proc.devRef .tc main_v0_1) = (dats m 0 c).arrAt 3 cfg0.N :=
    Pipeline.withArrays_arr (cfgs 0).spec launch0.win.arr_inj c (V0 m c) (fun w => (dats m 0 c).arrAt w (cfgs 0).N) 3
  unfold Pipeline.afterTail₀
  show StableHlo.after [StableHlo.reshape main_v0_1 main_v1 (rfl : (.f32 : EltTy) = .f32) shapeCasts_S19x1x5120_S19x5120]
    _ (Proc.devRef .tc main_v1) = _
  rw [StableHlo.after_cons, StableHlo.after_nil, StableHlo.reshape_result, h3, final3]
  exact reshaped _ _

/-- THE RUN: both results at the specification of the arguments, the arguments unchanged. -/
theorem run : θ_run defs (onTc (τ := τ) (main (F := Ideal))) ⟨m, fun _ => 0, ρ⟩ fun r => ∀ c : Dev nD,
      r.2.mem ((c : Thread nD τ).loc main_v0_0)
        = Spec.codes (m ((c : Thread nD τ).loc main_arg0)) (m ((c : Thread nD τ).loc main_arg1))
      ∧ r.2.mem ((c : Thread nD τ).loc main_v1)
        = Spec.scales (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final2 m c),
      ((h c).2 main_v1 (by decide)).trans (tail_v1 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Whole

end
-- ==== Proof.RefRun.lean ====
/- The reference's run, read: the reference is one kernel call at a single grid point whose blocks are the whole arrays,
   so after the run each result array is one function of the two argument arrays (`G2` the codes, `G3` the scales). -/
module

public import proofs.«01_k».proof.Proof.Gen.ReferenceIdeal.Frame
public import Idealize.ShloMosaic.Lib.Pipeline.Value

@[expose] public section

noncomputable section

namespace Cert.ReferenceIdeal.Whole

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v0_0) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_1) = (dats m 0 c).arrAt 3 cfg0.N :=
  (h c).1 3

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))
theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S19x1024x5120.Idx) : ((cfg0.win 0).blk t).view.emb j = j := by
  obtain ⟨e0, e1, e2⟩ := idx_zero0 t
  funext a; apply Fin.ext
  match a with
  | ⟨0, _⟩ => show win0_0.index t (0 : Fin 3) * 19 + 1 * (j 0).val = (j 0).val; omega
  | ⟨1, _⟩ => show win0_0.index t (1 : Fin 3) * 1024 + 1 * (j 1).val = (j 1).val; omega
  | ⟨2, _⟩ => show win0_0.index t (2 : Fin 3) * 5120 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S19x1024x40.Idx) : ((cfg0.win 1).blk t).view.emb j = j := by
  obtain ⟨e0, e1, e2⟩ := idx_zero1 t
  funext a; apply Fin.ext
  match a with
  | ⟨0, _⟩ => show win0_1.index t (0 : Fin 3) * 19 + 1 * (j 0).val = (j 0).val; omega
  | ⟨1, _⟩ => show win0_1.index t (1 : Fin 3) * 1024 + 1 * (j 1).val = (j 1).val; omega
  | ⟨2, _⟩ => show win0_1.index t (2 : Fin 3) * 40 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S19x1024x5120.Idx) : ((cfg0.win 2).blk t).view.emb j = j := by
  obtain ⟨e0, e1, e2⟩ := idx_zero2 t
  funext a; apply Fin.ext
  match a with
  | ⟨0, _⟩ => show win0_2.index t (0 : Fin 3) * 19 + 1 * (j 0).val = (j 0).val; omega
  | ⟨1, _⟩ => show win0_2.index t (1 : Fin 3) * 1024 + 1 * (j 1).val = (j 1).val; omega
  | ⟨2, _⟩ => show win0_2.index t (2 : Fin 3) * 5120 + 1 * (j 2).val = (j 2).val; omega

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S19x5120.Idx) : ((cfg0.win 3).blk t).view.emb j = j := by
  obtain ⟨e0, e1⟩ := idx_zero3 t
  funext a; apply Fin.ext
  match a with
  | ⟨0, _⟩ => show win0_3.index t (0 : Fin 2) * 19 + 1 * (j 0).val = (j 0).val; omega
  | ⟨1, _⟩ => show win0_3.index t (1 : Fin 2) * 5120 + 1 * (j 1).val = (j 1).val; omega

/-! ### Output window 2: the array after the run -/

/-- What the window's array ends holding: `out0_2` applied to the argument arrays in place of the input blocks (a value that the
    frame states apart, `kK_payN a…`, keeps its loads inside its own definition). -/
abbrev G2 (a0 : Vec F S19x1024x5120 .fp8e4m3) (a1 : Vec F S19x1024x40 .f32) : Vec F S19x1024x5120 .i8 :=
  k0_pay4 (k0_pay44 a0 a1) (k0_pay45 a0 a1)

/-- The one store through the whole rectangle leaves its payload. -/
theorem out2_eq (a0 : Vec F S19x1024x5120 .fp8e4m3) (a1 : Vec F S19x1024x40 .f32) : out0_2 (F := F) a0 a1 = G2 a0 a1 := by
  unfold out0_2
  rw [View.canon_unit_zero hz2]

/-- Cutting the point's block out of `X` and reading `X` through the block's view give the same. -/
theorem cut2_eq (t : Fin cfg0.N) (X : Vec F S19x1024x5120 .i8) :
    (cfg0.win 2).cut (grid0.coords t) X = ((cfg0.win 2).blk t).view.read (Elt F) X := by
  funext j
  show X j = X (((cfg0.win 2).blk t).view.emb j)
  rw [emb2]

/-- WHAT THE POINT WRITES BACK is its block of `G2` of the argument arrays as the region finds them. -/
theorem flushed2_eq (c : Dev nD) (t : Fin cfg0.N) :
    (dats m 0 c).flushed 2 t = ((cfg0.win 2).blk t).view.read (Elt F) (G2 (V m c main_arg0) (V m c main_arg1)) := by
  show (cfg0.win 2).cut (grid0.coords t) ((dats m 0 c).after 2 t) = _
  rw [after0_2, out2_eq, iblk0_eq, iblk1_eq]
  exact cut2_eq t _

/-- Every index of the array is in the point's block. -/
theorem covered2 (i : S19x1024x5120.Idx) :
    ∃ t : Fin cfg0.N, (cfg0.win 2).flush t = true ∧ i ∈ ((cfg0.win 2).blk t).view.set :=
  ⟨(⟨0, by decide⟩ : Fin cfg0.N), flush0_2 _, by have h := ((cfg0.win 2).blk (⟨0, by decide⟩ : Fin cfg0.N)).view.emb_mem_set i; rwa [emb2] at h⟩

/-- THE ARRAY after the run: `G2` of the argument arrays as launched. -/
theorem final2 (c : Dev nD) : (dats m 0 c).arrAt 2 cfg0.N = G2 (m ((c : Thread nD τ).loc main_arg0)) (m ((c : Thread nD τ).loc main_arg1)) :=
  ((dats m 0 c).arrAt_eq_of_cover 2 (G2 (V m c main_arg0) (V m c main_arg1)) (fun t _ => flushed2_eq m c t) covered2).trans (by rw [V_main_arg0, V_main_arg1])

/-! ### Output window 3: the array after the run -/

/-- What the window's array ends holding: `out0_3` applied to the argument arrays in place of the input blocks (a value that the
    frame states apart, `kK_payN a…`, keeps its loads inside its own definition). -/
abbrev G3 (a0 : Vec F S19x1024x5120 .fp8e4m3) (a1 : Vec F S19x1024x40 .f32) : Vec F S19x5120 .f32 :=
  k0_pay45 a0 a1

/-- The one store through the whole rectangle leaves its payload. -/
theorem out3_eq (a0 : Vec F S19x1024x5120 .fp8e4m3) (a1 : Vec F S19x1024x40 .f32) : out0_3 (F := F) a0 a1 = G3 a0 a1 := by
  unfold out0_3
  rw [View.canon_unit_zero hz3]

/-- Cutting the point's block out of `X` and reading `X` through the block's view give the same. -/
theorem cut3_eq (t : Fin cfg0.N) (X : Vec F S19x5120 .f32) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0) (V m c main_arg1)) := by
  show (cfg0.win 3).cut (grid0.coords t) ((dats m 0 c).after 3 t) = _
  rw [after0_3, out3_eq, iblk0_eq, iblk1_eq]
  exact cut3_eq t _

/-- Every index of the array is in the point's block. -/
theorem covered3 (i : S19x5120.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) (m ((c : Thread nD τ).loc main_arg1)) :=
  ((dats m 0 c).arrAt_eq_of_cover 3 (G3 (V m c main_arg0) (V m c main_arg1)) (fun t _ => flushed3_eq m c t) covered3).trans (by rw [V_main_arg0, V_main_arg1])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G2 (m ((c : Thread nD τ).loc main_arg0)) (m ((c : Thread nD τ).loc main_arg1))
      ∧ r.2.mem ((c : Thread nD τ).loc main_v0_1) = G3 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(post2 m r h c).trans (final2 m c),
      (post3 m r h c).trans (final3 m c),
      kept_main_arg0 m r h c,
      kept_main_arg1 m r h c⟩)
    (run_main m ρ)

end Cert.ReferenceIdeal.Whole

end
-- ==== Proof.RefValue.lean ====
/- The reference on the extended reals, index by index: its one store of codes and its one store of scales hold the
   specification's functions. The reference spreads the group scales over the columns by concatenating 40 broadcast
   slices of 128 columns each; read at column `k` that is the scale of group `k / 128`. -/
module

public import proofs.«01_k».proof.Proof.RefRun
public import proofs.«01_k».proof.Proof.Spec

@[expose] public section

noncomputable section

namespace Cert.ReferenceIdeal.Whole

open Cert.ReferenceIdeal Cert.ReferenceIdeal.Gen Idealize.ShloMosaic Idealize.ShloMosaic.ValueIdx

variable (a0 : Vec Ideal S19x1024x5120 .fp8e4m3) (a1 : Vec Ideal S19x1024x40 .f32)

/-- Column `g` of the group scales can be sliced out. -/
theorem sliceable (g : Fin 40) : S19x1024x40.Slices ![0, 0, g.val] S19x1024x1 :=
  ⟨rfl, fun a => match a with
    | ⟨0, _⟩ => (by decide : 0 + 19 ≤ 19)
    | ⟨1, _⟩ => (by decide : 0 + 1024 ≤ 1024)
    | ⟨2, _⟩ => (show g.val + 1 ≤ 40 by omega)⟩

/-- The scales of group `g`, spread over 128 columns. -/
def piece (g : Fin 40) : FVec Ideal S19x1024x128 .f32 :=
  broadcastTo S19x1024x128 (shapeCast S19x1024x1 (extractStridedSlice S19x1024x1 ![0, 0, g.val] a1 (sliceable g))
    shapeCasts_S19x1024x1_S19x1024x1) broadcasts_S19x1024x1_S19x1024x128

theorem piece_apply (g : Fin 40) (b : Fin 19) (r : Fin 1024) (l : Fin 128) :
    piece a1 g (ix3 b r l) = a1 (ix3 b r g) := by
  unfold piece
  rw [shapeCast_self]
  refine (broadcastTo_apply _ _ _ (ix3 b r 0) fun a => ?_).trans ?_
  · match a with
    | ⟨0, _⟩ => rfl
    | ⟨1, _⟩ => rfl
    | ⟨2, _⟩ => rfl
  refine extractStridedSlice_apply _ _ _ _ _ fun a => ?_
  match a with
  | ⟨0, _⟩ => exact (Nat.zero_add b.val).symm
  | ⟨1, _⟩ => exact (Nat.zero_add r.val).symm
  | ⟨2, _⟩ => rfl

/-- The 40 pieces laid end to end fill the 5120 columns. -/
theorem fills : Shape.Concatenates ((List.ofFn fun g : Fin 40 =>
    (⟨S19x1024x128, piece a1 g⟩ : (s : Shape) × (s.Idx → Elt Ideal .f32))).map (·.1)) S19x1024x5120 2 := by
  have e : (List.ofFn fun g : Fin 40 => (⟨S19x1024x128, piece a1 g⟩ : (s : Shape) × (s.Idx → Elt Ideal .f32))).map (·.1)
      = List.replicate 40 S19x1024x128 := by
    rw [List.map_ofFn]; rfl
  rw [e]
  decide

/-- The group scales spread over all 5120 columns. -/
def spread : FVec Ideal S19x1024x5120 .f32 :=
  concatenate S19x1024x5120 2 (List.ofFn fun g : Fin 40 => ⟨S19x1024x128, piece a1 g⟩) (fills a1)

theorem spread_apply (b : Fin 19) (r : Fin 1024) (k : Fin 5120) :
    spread a1 (ix3 b r k) = a1 (ix3 b r (Spec.group k)) := by
  unfold spread
  refine (concatenate_ofFn_apply (s₁ := S19x1024x128) (t := S19x1024x5120) 2 (piece a1) (fills a1) rfl 128 rfl (ix3 b r k) (Spec.group k) rfl
    (ix3 b r ⟨k.val % 128, Nat.mod_lt _ (by decide)⟩) rfl fun a ha => ?_).trans (piece_apply a1 _ b r _)
  match a with
  | ⟨0, _⟩ => rfl
  | ⟨1, _⟩ => rfl
  | ⟨2, _⟩ => exact absurd rfl ha

/-- The reference's values are codes times spread scales. -/
theorem pay44_eq : k0_pay44 (F := Ideal) a0 a1 = k0_pay2 (F := Ideal) a0 (spread a1) := by
  unfold k0_pay44
  rw [View.ld_unit_zero hz0, View.ld_unit_zero hz1]
  rfl

/-- Values that are products with an array of scales are the specification's, where that array holds the group's scale. -/
theorem val_of (X s : FVec Ideal S19x1024x5120 .f32) (hX : X = k0_pay2 (F := Ideal) a0 s) (b : Fin 19) (r : Fin 1024)
    (k : Fin 5120) (hs : s (ix3 b r k) = a1 (ix3 b r (Spec.group k))) : X (ix3 b r k) = Spec.val a0 a1 b r k := by
  subst hX
  unfold Spec.val
  rw [← hs]
  rfl

/-- The reference's value at batch `b`, row `r`, column `k`. -/
theorem val_apply (b : Fin 19) (r : Fin 1024) (k : Fin 5120) :
    k0_pay44 (F := Ideal) a0 a1 (ix3 b r k) = Spec.val a0 a1 b r k :=
  val_of a0 a1 (k0_pay44 (F := Ideal) a0 a1) (spread a1) (pay44_eq a0 a1) b r k (spread_apply a1 b r k)

/-- The column maxima of any array of magnitudes, at batch `b`, column `k`. -/
theorem amax_of (X : FVec Ideal S19x1024x5120 .f32) (b : Fin 19) (k : Fin 5120) :
    multiReduction (F := Ideal) .maximumf [1] S19x5120 (absf X) 0xFF800000#32
      reduces_S19x1024x5120_S19x5120 (.inl rfl) rfl (ix2 b k) = Spec.amax fun r => X (ix3 b r k) := by
  refine (Ideal.multiReduction_maximumf_single _ _ _ _ _ _).trans ?_
  refine congrArg (Finset.univ.fold max _) (funext fun r => ?_)
  have e : Shape.Reduces.lift reduces_S19x1024x5120_S19x5120 (ix2 b k) r = ix3 b r k := by
    funext d
    match d with
    | ⟨0, _⟩ => rfl
    | ⟨1, _⟩ => rfl
    | ⟨2, _⟩ => rfl
  exact congrArg (fun i => FloatOps.absf (F := Ideal) (φ := .f32) (X i)) e

/-- The scales of any array of column maxima, index by index. -/
theorem qscale_of (a : FVec Ideal S19x5120 .f32) (i : S19x5120.Idx) :
    select (cmpf .oeq a (broadcast S19x5120 (Scalar.ofBits (F := Ideal) .f32 0x00000000#32)))
      (broadcast S19x5120 (Scalar.ofBits (F := Ideal) .f32 0x3F800000#32))
      (divf a (broadcast S19x5120 (Scalar.ofBits (F := Ideal) .f32 0x42FE0000#32))) i = Spec.qscale (a i) := rfl

/-- The scale of any array of values, at batch `b`, column `k`. -/
theorem scale_of (X : FVec Ideal S19x1024x5120 .f32) (b : Fin 19) (k : Fin 5120) :
    k0_pay3 (F := Ideal) X (ix2 b k) = Spec.qscale (Spec.amax fun r => X (ix3 b r k)) := by
  unfold k0_pay3
  exact (qscale_of _ (ix2 b k)).trans (congrArg Spec.qscale (amax_of X b k))

/-- The code of any array of values under any array of scales, at batch `b`, row `r`, column `k`. -/
theorem code_of (X : FVec Ideal S19x1024x5120 .f32) (s : FVec Ideal S19x5120 .f32) (b : Fin 19) (r : Fin 1024)
    (k : Fin 5120) : k0_pay4 (F := Ideal) X s (ix3 b r k) = Spec.qcode (X (ix3 b r k)) (s (ix2 b k)) := by
  have hs : broadcastTo S19x1024x5120 (shapeCast S19x1x5120 s shapeCasts_S19x5120_S19x1x5120)
      broadcasts_S19x1x5120_S19x1024x5120 (ix3 b r k) = s (ix2 b k) := by
    refine (broadcastTo_apply _ _ _ (ix3 b 0 k) fun a => ?_).trans ?_
    · match a with
      | ⟨0, _⟩ => rfl
      | ⟨1, _⟩ => rfl
      | ⟨2, _⟩ => rfl
    refine shapeCast_apply _ _ _ (ix2 b k) ?_
    rw [Shape.rowMajor_val_two, Shape.rowMajor_val_three]
    show b.val * 5120 + k.val = (b.val * 1 + 0) * 5120 + k.val
    omega
  rw [← hs]
  rfl

/-- The reference's scale at batch `b`, column `k`. -/
theorem scale_apply (b : Fin 19) (k : Fin 5120) : G3 (F := Ideal) a0 a1 (ix2 b k) = Spec.scale a0 a1 b k :=
  (scale_of (k0_pay44 (F := Ideal) a0 a1) b k).trans
    (congrArg (fun f => Spec.qscale (Spec.amax f)) (funext fun r => val_apply a0 a1 b r k))

/-- The reference's code at batch `b`, row `r`, column `k`. -/
theorem code_apply (b : Fin 19) (r : Fin 1024) (k : Fin 5120) :
    G2 (F := Ideal) a0 a1 (ix3 b r k) = Spec.code a0 a1 b r k :=
  (code_of (k0_pay44 (F := Ideal) a0 a1) (k0_pay45 (F := Ideal) a0 a1) b r k).trans
    (congrArg₂ Spec.qcode (val_apply a0 a1 b r k) (scale_apply a0 a1 b k))

/-- The reference's codes are the specification's. -/
theorem codes_eq : G2 (F := Ideal) a0 a1 = Spec.codes a0 a1 :=
  funext fun i => (congrArg (G2 (F := Ideal) a0 a1) (eq_ix3 i)).trans (code_apply a0 a1 (i 0) (i 1) (i 2))

/-- The reference's scales are the specification's. -/
theorem scales_eq : G3 (F := Ideal) a0 a1 = Spec.scales a0 a1 :=
  funext fun i => (congrArg (G3 (F := Ideal) a0 a1) (eq_ix2 i)).trans (scale_apply a0 a1 (i 0) (i 1))

end Cert.ReferenceIdeal.Whole
-- ==== Proof.lean ====
module

public import proofs.«01_k».proof.Defs
public import proofs.«01_k».proof.Proof.Gen.Kernel.Frame
public import proofs.«01_k».proof.Proof.KernelRun
public import proofs.«01_k».proof.Proof.RefValue

@[expose] public section

noncomputable section

namespace Cert.Proof

open Idealize.ShloMosaic Idealize.ShloMosaic.TcCoe Idealize.SL.Sem

/-- The kernel and the reference compute the same two results on the extended reals. -/
theorem algebraic : letI := Cert.KernelIdeal.Gen.facts; letI := Cert.ReferenceIdeal.Gen.facts
    Cert.algebraic_KernelIdeal_ReferenceIdeal := by
  intro m ρ m' ρ' _ hagree
  refine ⟨fun c => Cert.Spec.codes (m (c.tc.loc Cert.KernelIdeal.main_arg0)) (m (c.tc.loc Cert.KernelIdeal.main_arg1)),
    fun c => Cert.Spec.scales (m (c.tc.loc Cert.KernelIdeal.main_arg0)) (m (c.tc.loc Cert.KernelIdeal.main_arg1)),
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Whole.run (F := Ideal) m' ρ')
  · rw [Cert.ReferenceIdeal.Whole.codes_eq, (hagree c).1, (hagree c).2]
  · rw [Cert.ReferenceIdeal.Whole.scales_eq, (hagree c).1, (hagree c).2]

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
